-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bits_and_finite [hPre_bits_and_finite : Cert.Pre_bits_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bits_and_finite [hPre_bits_and_finite : Cert.Pre_bits_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bits_and_finite [hKernelIdeal : Cert.KernelIdeal.Facts] [hPre_bits_and_finite : Cert.Pre_bits_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bits_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bits_and_finite [hReferenceIdeal : Cert.ReferenceIdeal.Facts] [hPre_bits_and_finite : Cert.Pre_bits_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bits_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bits_and_finite [hKernelIdeal : Cert.KernelIdeal.Facts] [hReferenceIdeal : Cert.ReferenceIdeal.Facts] [hPre_bits_and_finite : Cert.Pre_bits_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bits_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bits_and_finite : Cert.Pre_bits_and_finite.Facts),
    quiescent_Kernel (hKernel := hKernel)
    ∧ quiescent_KernelIdeal (hKernelIdeal := hKernelIdeal)
    ∧ quiescent_KernelIdeal_pre_bits_and_finite (hKernelIdeal := hKernelIdeal) (hPre_bits_and_finite := hPre_bits_and_finite)
    ∧ quiescent_ReferenceIdeal (hReferenceIdeal := hReferenceIdeal)
    ∧ quiescent_ReferenceIdeal_pre_bits_and_finite (hReferenceIdeal := hReferenceIdeal) (hPre_bits_and_finite := hPre_bits_and_finite)
    ∧ preserves_Kernel_KernelIdeal
    ∧ algebraic_KernelIdeal_ReferenceIdeal_pre_bits_and_finite (hKernelIdeal := hKernelIdeal) (hReferenceIdeal := hReferenceIdeal) (hPre_bits_and_finite := hPre_bits_and_finite)
-- ==== Pre_bits_and_finite.lean ====
abbrev S16384x32 : Shape := ⟨2, ![16384, 32]⟩
abbrev S2x64 : Shape := ⟨2, ![2, 64]⟩
abbrev S64x2048 : Shape := ⟨2, ![64, 2048]⟩
abbrev S64 : Shape := ⟨1, ![64]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : IVec S16384x32 32) (main_arg1 : FVec F S2x64 .f32) (main_arg2 : FVec F S64x2048 .f32) (main_arg3 : FVec F S64 .f32) : IVec S_ 1 :=
  let main_c : IVec S_ 32 := constantI S_ 32 0#32
  let main_v0 : IVec S16384x32 32 := broadcastInDim S16384x32 ![] bcast_S_S16384x32 main_c
  let main_v1 : IVec S16384x32 1 := cmpi .eq main_arg0 main_v0
  let main_c_0 : IVec S_ 32 := constantI S_ 32 1#32
  let main_v2 : IVec S16384x32 32 := broadcastInDim S16384x32 ![] bcast_S_S16384x32 main_c_0
  let main_v3 : IVec S16384x32 1 := cmpi .eq main_arg0 main_v2
  let main_v4 : IVec S16384x32 1 := ori main_v1 main_v3
  let main_c_1 : IVec S_ 1 := constantI S_ 1 1#1
  let main_v5 : IVec S_ 1 := (fun x v => Host.reduce IntOp.andi x v reducesTo_S16384x32_S_d0_1 h_S_) main_v4 main_c_1
  let main_v6 : FVec F S2x64 .f32 := Host.absf main_arg1
  let main_cst : FVec F S_ .f32 := constant S_ .f32 0x7F800000#32
  let main_v7 : FVec F S2x64 .f32 := broadcastInDim S2x64 ![] bcast_S_S2x64 main_cst
  let main_v8 : IVec S2x64 1 := cmpf .olt main_v6 main_v7
  let main_c_2 : IVec S_ 1 := constantI S_ 1 1#1
  let main_v9 : IVec S_ 1 := (fun x v => Host.reduce IntOp.andi x v reducesTo_S2x64_S_d0_1 h_S_) main_v8 main_c_2
  let main_v10 : IVec S_ 1 := andi main_v5 main_v9
  let main_v11 : FVec F S64x2048 .f32 := Host.absf main_arg2
  let main_cst_3 : FVec F S_ .f32 := constant S_ .f32 0x7F800000#32
  let main_v12 : FVec F S64x2048 .f32 := broadcastInDim S64x2048 ![] bcast_S_S64x2048 main_cst_3
  let main_v13 : IVec S64x2048 1 := cmpf .olt main_v11 main_v12
  let main_c_4 : IVec S_ 1 := constantI S_ 1 1#1
  let main_v14 : IVec S_ 1 := (fun x v => Host.reduce IntOp.andi x v reducesTo_S64x2048_S_d0_1 h_S_) main_v13 main_c_4
  let main_v15 : IVec S_ 1 := andi main_v10 main_v14
  main_v15
-- ==== Kernel.lean ====
abbrev S16384x32 : Shape := ⟨2, ![16384, 32]⟩
abbrev S2x64 : Shape := ⟨2, ![2, 64]⟩
abbrev S64x2048 : Shape := ⟨2, ![64, 2048]⟩
abbrev S64 : Shape := ⟨1, ![64]⟩
abbrev S1x64 : Shape := ⟨2, ![1, 64]⟩
abbrev S16384x64 : Shape := ⟨2, ![16384, 64]⟩
abbrev S8192x32 : Shape := ⟨2, ![8192, 32]⟩
abbrev S8192x64 : Shape := ⟨2, ![8192, 64]⟩
abbrev S64x32 : Shape := ⟨2, ![64, 32]⟩
abbrev S1x2048 : Shape := ⟨2, ![1, 2048]⟩
abbrev S2048x32 : Shape := ⟨2, ![2048, 32]⟩

abbrev nBuf : Space → Nat
  | .hbm => 6
  | .vmem => 9
  | .smem => 0
  | _ => 0

abbrev bufTy : (tb : Table) → Fin (tcTables nBuf tb) → BufTy
  | .hbm, ⟨0, _⟩ => ⟨S16384x32, .i32⟩
  | .hbm, ⟨1, _⟩ => ⟨S2x64, .f32⟩
  | .hbm, ⟨2, _⟩ => ⟨S64x2048, .f32⟩
  | .hbm, ⟨3, _⟩ => ⟨S64, .f32⟩
  | .hbm, ⟨4, _⟩ => ⟨S1x64, .f32⟩
  | .hbm, ⟨5, _⟩ => ⟨S16384x64, .f32⟩
  | .local _ .vmem, ⟨0, _⟩ => ⟨S8192x32, .i32⟩
  | .local _ .vmem, ⟨1, _⟩ => ⟨S8192x32, .i32⟩
  | .local _ .vmem, ⟨2, _⟩ => ⟨S2x64, .f32⟩
  | .local _ .vmem, ⟨3, _⟩ => ⟨S64x2048, .f32⟩
  | .local _ .vmem, ⟨4, _⟩ => ⟨S1x64, .f32⟩
  | .local _ .vmem, ⟨5, _⟩ => ⟨S8192x64, .f32⟩
  | .local _ .vmem, ⟨6, _⟩ => ⟨S8192x64, .f32⟩
  | .local _ .vmem, ⟨7, _⟩ => ⟨S64x32, .f32⟩
  | .local _ .vmem, ⟨8, _⟩ => ⟨S1x64, .f32⟩
  | _, _ => ⟨S16384x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x32 : Shape := ⟨2, ![16384, 32]⟩
abbrev S2x64 : Shape := ⟨2, ![2, 64]⟩
abbrev S64x2048 : Shape := ⟨2, ![64, 2048]⟩
abbrev S64 : Shape := ⟨1, ![64]⟩
abbrev S_ : Shape := ⟨0, ![]⟩
abbrev S16384x32x1 : Shape := ⟨3, ![16384, 32, 1]⟩
abbrev S1 : Shape := ⟨1, ![1]⟩
abbrev S1x1x1 : Shape := ⟨3, ![1, 1, 1]⟩
abbrev S16384x32x64 : Shape := ⟨3, ![16384, 32, 64]⟩
abbrev S16384x2048 : Shape := ⟨2, ![16384, 2048]⟩
abbrev S2048x64 : Shape := ⟨2, ![2048, 64]⟩
abbrev S16384x64 : Shape := ⟨2, ![16384, 64]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S16384x32, .i32⟩
  | .hbm, ⟨1, _⟩ => ⟨S2x64, .f32⟩
  | .hbm, ⟨2, _⟩ => ⟨S64x2048, .f32⟩
  | .hbm, ⟨3, _⟩ => ⟨S64, .f32⟩
  | .hbm, ⟨4, _⟩ => ⟨S_, .i32⟩
  | .hbm, ⟨5, _⟩ => ⟨S16384x32, .i32⟩
  | .hbm, ⟨6, _⟩ => ⟨S16384x32, .i1⟩
  | .hbm, ⟨7, _⟩ => ⟨S_, .i32⟩
  | .hbm, ⟨8, _⟩ => ⟨S16384x32, .i32⟩
  | .hbm, ⟨9, _⟩ => ⟨S16384x32, .i32⟩
  | .hbm, ⟨10, _⟩ => ⟨S16384x32, .i32⟩
  | .hbm, ⟨11, _⟩ => ⟨S16384x32x1, .i32⟩
  | .hbm, ⟨12, _⟩ => ⟨S1, .i32⟩
  | .hbm, ⟨13, _⟩ => ⟨S_, .i32⟩
  | .hbm, ⟨14, _⟩ => ⟨S16384x32x1, .i32⟩
  | .hbm, ⟨15, _⟩ => ⟨S16384x32x1, .i1⟩
  | .hbm, ⟨16, _⟩ => ⟨S1x1x1, .i32⟩
  | .hbm, ⟨17, _⟩ => ⟨S16384x32x1, .i32⟩
  | .hbm, ⟨18, _⟩ => ⟨S16384x32x1, .i1⟩
  | .hbm, ⟨19, _⟩ => ⟨S16384x32x1, .i1⟩
  | .hbm, ⟨20, _⟩ => ⟨S_, .i1⟩
  | .hbm, ⟨21, _⟩ => ⟨S16384x32, .i1⟩
  | .hbm, ⟨22, _⟩ => ⟨S16384x32x64, .f32⟩
  | .hbm, ⟨23, _⟩ => ⟨S16384x32x64, .i1⟩
  | .hbm, ⟨24, _⟩ => ⟨S_, .f32⟩
  | .hbm, ⟨25, _⟩ => ⟨S16384x32x64, .f32⟩
  | .hbm, ⟨26, _⟩ => ⟨S16384x32x64, .f32⟩
  | .hbm, ⟨27, _⟩ => ⟨S16384x2048, .f32⟩
  | .hbm, ⟨28, _⟩ => ⟨S2048x64, .f32⟩
  | .hbm, ⟨29, _⟩ => ⟨S16384x64, .f32⟩
  | .hbm, ⟨30, _⟩ => ⟨S1x64, .f32⟩
  | .hbm, ⟨31, _⟩ => ⟨S16384x64, .f32⟩
  | .hbm, ⟨32, _⟩ => ⟨S16384x64, .f32⟩
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Fold.lean ====
/- The mathematics of the certificate, with no program in sight. A table of two rows is read at bits: row `s` of the
   table is `t0 + s · (t1 - t0)` when `s` is 0 or 1. So the product of the looked-up rows, laid out one after the other
   (32 rows of 64 numbers, position `k` being number `k % 64` of row `k / 64`), with a row `w` of weights is the product
   of the bits with 32 numbers that depend on the table and the weights only, plus a number that depends on them only.
   The first is the reference's order of work, the second the kernel's. -/
module

public import Mathlib.Data.EReal.Operations
public import Mathlib.Algebra.BigOperators.Ring.Finset
public import Mathlib.Algebra.BigOperators.Fin
public import Mathlib.Tactic.Ring

@[expose] public section

namespace Cert.Fold

open Finset

/-- Position `k` of the laid-out row is number `k % 64` of its embedding. -/
abbrev lane (k : Fin 2048) : Fin 64 := ⟨k.val % 64, Nat.mod_lt _ (by decide)⟩

/-- Position `k` of the laid-out row belongs to bit `k / 64`. -/
abbrev bit (k : Fin 2048) : Fin 32 := ⟨k.val / 64, by omega⟩

/-- A product with the matrix whose column `k` has its single one at row `k % 64` picks number `k % 64`: this is how
    the kernel repeats a row of 64 numbers 32 times. It holds of any numbers, infinities included. -/
theorem sum_tile (a : Fin 64 → EReal) (k : Fin 2048) :
    ∑ e : Fin 64, a e * (if k.val % 64 = e.val then 1 else 0) = a (lane k) := by
  rw [Finset.sum_eq_single (lane k)]
  · rw [if_pos rfl, mul_one]
  · intro e _ he
    rw [if_neg (fun h => he (Fin.ext h.symm)), mul_zero]
  · exact fun h => absurd (Finset.mem_univ _) h

/-- A finite sum of real numbers, read as extended reals, is the sum of the readings. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing over the positions of each bit in turn is summing over the positions: every position belongs to one bit. -/
theorem sum_by_bit (s : Fin 32 → ℝ) (g : Fin 2048 → ℝ) :
    ∑ j : Fin 32, s j * ∑ k : Fin 2048, g k * (if k.val / 64 = j.val then 1 else 0)
      = ∑ k : Fin 2048, s (bit k) * g k := by
  simp only [Finset.mul_sum]
  rw [Finset.sum_comm]
  refine Finset.sum_congr rfl fun k _ => ?_
  rw [Finset.sum_eq_single (bit k)]
  · rw [if_pos rfl, mul_one]
  · intro j _ hj
    rw [if_neg (fun h => hj (Fin.ext h.symm)), mul_zero, mul_zero]
  · exact fun h => absurd (Finset.mem_univ _) h

/-- The two orders of work over the real numbers. -/
theorem fold_real (s : Fin 32 → ℝ) (t0 t1 : Fin 64 → ℝ) (w : Fin 2048 → ℝ) :
    (∑ j : Fin 32, s j * ∑ k : Fin 2048, (w k * (t1 (lane k) - t0 (lane k))) * (if k.val / 64 = j.val then 1 else 0))
        + ∑ k : Fin 2048, t0 (lane k) * w k
      = ∑ k : Fin 2048, (t0 (lane k) + s (bit k) * (t1 (lane k) - t0 (lane k))) * w k := by
  rw [sum_by_bit, ← Finset.sum_add_distrib]
  exact Finset.sum_congr rfl fun k _ => by ring

/-- The 0/1 marker of a group of positions is the same number among the reals and among the extended reals. -/
theorem coe_marker (p : Prop) [Decidable p] : ((if p then 1 else 0 : ℝ) : EReal) = if p then 1 else 0 := by
  split <;> simp

/-- The two orders of work over the extended reals, where the bits, the table and the weights are finite; the bias,
    which both add once, may be anything. -/
theorem fold_ereal (s : Fin 32 → ℝ) (t0 t1 : Fin 64 → ℝ) (w : Fin 2048 → ℝ) (b : EReal) :
    (∑ j : Fin 32, (s j : EReal) * ∑ k : Fin 2048,
          ((w k : EReal) * ((t1 (lane k) : EReal) - (t0 (lane k) : EReal))) * (if k.val / 64 = j.val then 1 else 0))
        + (b + ∑ k : Fin 2048, (t0 (lane k) : EReal) * (w k : EReal))
      = (∑ k : Fin 2048, ((t0 (lane k) + s (bit k) * (t1 (lane k) - t0 (lane k)) : ℝ) : EReal) * (w k : EReal)) + b := by
  have h := congrArg (fun z : ℝ => (z : EReal)) (fold_real s t0 t1 w)
  simp only [EReal.coe_add, coe_sum_real, EReal.coe_mul, EReal.coe_sub, coe_marker] at h
  simp only [EReal.coe_add, EReal.coe_mul, EReal.coe_sub]
  rw [← h, add_assoc, add_comm b]

end Cert.Fold
-- ==== Proof.Words.lean ====
/- The kernel's integer words: the remainder and the floor division of a column number by 64, as the kernel spells
   them (with the corrections for negative numbers, which never apply here), are the words of `k % 64` and `k / 64`. -/
module

public import Idealize.ShloMosaic.Lib.Pointwise

@[expose] public section

noncomputable section

namespace Cert.Words

open Idealize.ShloMosaic

/-- The truncated remainder of `k` by 64, for `k` below 2048. -/
theorem remsi_64 : ∀ k : Fin 2048, IntOp.remsi .vector (BitVec.ofNat 32 k.val) 64#32 = BitVec.ofNat 32 (k.val % 64) := by
  decide +kernel

/-- The truncated quotient of `k` by 64, for `k` below 2048. -/
theorem divsi_64 : ∀ k : Fin 2048, IntOp.divsi .vector (BitVec.ofNat 32 k.val) 64#32 = BitVec.ofNat 32 (k.val / 64) := by
  decide +kernel

/-- The kernel's spelling of `k % 64`: the truncated remainder, moved up by 64 where it is negative. -/
theorem mod_word : ∀ k : Fin 2048,
    Scalar.select
      (IntOp.andi
        (IntOp.xori (IntOp.cmpi .slt (BitVec.ofNat 32 (k.val % 64)) 0#32) (Scalar.cmpi .slt 64#32 0#32))
        (IntOp.cmpi .ne (BitVec.ofNat 32 (k.val % 64)) 0#32))
      (IntOp.addi (BitVec.ofNat 32 (k.val % 64)) 64#32)
      (BitVec.ofNat 32 (k.val % 64)) = BitVec.ofNat 32 (k.val % 64) := by
  decide +kernel

/-- The kernel's spelling of `k / 64`: the truncated quotient, moved down by one where the signs of `k` and 64 differ
    and the remainder is not zero. -/
theorem div_word : ∀ k : Fin 2048,
    Scalar.select
      (IntOp.andi
        (IntOp.cmpi .ne
          (IntOp.subi (BitVec.setWidth 32 (IntOp.cmpi .sgt (BitVec.ofNat 32 k.val) 0#32))
            (BitVec.setWidth 32 (IntOp.cmpi .slt (BitVec.ofNat 32 k.val) 0#32)))
          (Scalar.subi 1#32 (Scalar.extui (Scalar.cmpi .slt 64#32 0#32))))
        (IntOp.cmpi .ne (BitVec.ofNat 32 (k.val % 64)) 0#32))
      (IntOp.subi (BitVec.ofNat 32 (k.val / 64)) 1#32)
      (BitVec.ofNat 32 (k.val / 64)) = BitVec.ofNat 32 (k.val / 64) := by
  decide +kernel

/-- The equality of two small words, widened and turned into a number, is 1 where they name the same number, 0 elsewhere. -/
theorem marker (a b : ℕ) (ha : a < 2 ^ 32) (hb : b < 2 ^ 32) :
    (FloatOps.sitofp (F := Ideal) .f32
      (BitVec.setWidth 32 (IntOp.cmpi .eq (BitVec.ofNat 32 a) (BitVec.ofNat 32 b))) : EReal) = if a = b then 1 else 0 := by
  have e : (BitVec.ofNat 32 a == BitVec.ofNat 32 b) = decide (a = b) := by
    rw [Bool.eq_iff_iff, beq_iff_eq, decide_eq_true_iff, ← BitVec.toNat_inj, BitVec.toNat_ofNat, BitVec.toNat_ofNat,
      Nat.mod_eq_of_lt ha, Nat.mod_eq_of_lt hb]
  show (((BitVec.setWidth 32 (BitVec.ofBool (BitVec.ofNat 32 a == BitVec.ofNat 32 b))).toInt : ℝ) : EReal) = _
  rw [e]
  by_cases h : a = b
  · simp [h]
  · simp [h]

end Cert.Words

end
-- ==== Proof.Payloads.lean ====
/- What the kernel body stores, read at an index: the tables it builds at the first grid point (`mt`, one number per
   output and bit, and `cv`, one number per output) and the block of the result it writes at every point. -/
module

public import proofs.«01_k».proof.Proof.Gen.KernelIdeal.Frame
public import proofs.«01_k».proof.Proof.Fold
public import proofs.«01_k».proof.Proof.Words

@[expose] public section

set_option maxRecDepth 16384

noncomputable section

namespace Cert.KernelIdeal.Payloads

open Cert.KernelIdeal Cert.KernelIdeal.Gen Idealize.ShloMosaic
open Cert.Fold (lane bit)

/-- The repeating matrix: column `k` has its single one at row `k % 64`. -/
theorem tile_apply (e : Fin 64) (k : Fin 2048) :
    k0_pay4 (F := Ideal) (ix2 e k) = if k.val % 64 = e.val then (1 : EReal) else 0 := by
  pointwise [k0_pay4]
  rw [show Scalar.select (Scalar.cmpi .eq 64#32 0#32) 1#32 64#32 = 64#32 from by decide, Words.remsi_64, Words.mod_word]
  exact Words.marker _ _ (by omega) (by omega)

/-- The row `t` of 64 numbers, repeated 32 times. -/
theorem repeat_apply (t : FVec Ideal S1x64 .f32) (k : Fin 2048) :
    k0_pay5 (F := Ideal) t (ix2 0 k) = t (ix2 0 (lane k)) := by
  pointwise [k0_pay5]
  simp only [tile_apply]
  exact Fold.sum_tile (fun e => t (ix2 0 e)) k

/-- The weights times the repeated difference of the table's rows. -/
theorem scaled_apply (t u : FVec Ideal S1x64 .f32) (W : FVec Ideal S64x2048 .f32) (o : Fin 64) (k : Fin 2048) :
    k0_pay6 (F := Ideal) t u W (ix2 o k) = W (ix2 o k) * (u (ix2 0 (lane k)) - t (ix2 0 (lane k))) := by
  pointwise [k0_pay6]
  simp only [tile_apply]
  rw [Fold.sum_tile (fun e => u (ix2 0 e) - t (ix2 0 e)) k]

/-- The row and the column numbers of the 2048 by 32 grouping matrix. -/
abbrev rows : IVec S2048x32 32 := iota .tc S2048x32 32 [0] iota_S2048x32_d0_w32
abbrev cols : IVec S2048x32 32 := iota .tc S2048x32 32 [1] iota_S2048x32_d1_w32

/-- The grouping: entry `(o, j)` is the sum of row `o`'s entries at the positions of bit `j`. -/
theorem group_apply (G : FVec Ideal S64x2048 .f32) (o : Fin 64) (j : Fin 32) :
    k0_pay1 (F := Ideal) G rows cols 64#32 k0_pay7 k0_pay8 1#32 (ix2 o j)
      = ∑ k : Fin 2048, G (ix2 o k) * (if k.val / 64 = j.val then (1 : EReal) else 0) := by
  pointwise [k0_pay1, k0_pay7, k0_pay8]
  refine Finset.sum_congr rfl fun k _ => ?_
  rw [Words.remsi_64, Words.divsi_64, Words.div_word]
  exact congrArg (G (ix2 o k) * ·) (Words.marker _ _ (by omega) (by omega))

/-- The constant part: the bias plus the weights' product with the row the zero bits read. -/
theorem const_apply (t : FVec Ideal S1x64 .f32) (W : FVec Ideal S64x2048 .f32) (b : FVec Ideal S1x64 .f32) (o : Fin 64) :
    k0_pay2 (F := Ideal) W (k0_pay5 t) b (ix2 0 o)
      = b (ix2 0 o) + ∑ k : Fin 2048, t (ix2 0 (lane k)) * W (ix2 o k) := by
  pointwise [k0_pay2]
  simp only [repeat_apply]

/-- The block of the result: the bits times the grouped weights, plus the constant part. -/
theorem block_apply (x : IVec S8192x32 32) (mt : FVec Ideal S64x32 .f32) (cv : FVec Ideal S1x64 .f32) (r : Fin 8192)
    (o : Fin 64) :
    k0_pay3 (F := Ideal) x mt cv (ix2 r o)
      = (∑ j : Fin 32, (((x (ix2 r j)).toInt : ℝ) : EReal) * mt (ix2 o j)) + cv (ix2 0 o) := by
  pointwise [k0_pay3]
  rfl

end Cert.KernelIdeal.Payloads

end
-- ==== Proof.Array.lean ====
/- What the kernel's result array holds after the run, read at an index, in terms of the argument arrays. The first grid
   point fills the two tables, the second finds them as the first left them; each point writes 8192 rows of the result. -/
module

public import proofs.«01_k».proof.Proof.Gen.KernelIdeal.Value
public import proofs.«01_k».proof.Proof.Payloads
public import Idealize.ShloMosaic.Lib.Pipeline.ValueKit
public import Idealize.ShloMosaic.Lib.Pipeline.ReadBack

@[expose] public section

set_option maxRecDepth 16384

noncomputable section

namespace Cert.KernelIdeal.Array

open Cert.KernelIdeal Cert.KernelIdeal.Gen Idealize.ShloMosaic Idealize.ShloMosaic.TcCoe
open Cert.Fold (lane bit)

variable (m : (ℓ : Loc nD τ sig) → Buf (Elt Ideal) ℓ) (c : Dev nD)

/-- The arguments' arrays, as the program names them: the bits, the table, the weights, the bias. -/
abbrev X : IVec S16384x32 32 := m ((c.tc : Thread nD τ).loc main_arg0)
abbrev T : FVec Ideal S2x64 .f32 := m ((c.tc : Thread nD τ).loc main_arg1)
abbrev W : FVec Ideal S64x2048 .f32 := m ((c.tc : Thread nD τ).loc main_arg2)
abbrev B : FVec Ideal S64 .f32 := m ((c.tc : Thread nD τ).loc main_arg3)

/-- The windows' blocks at a grid point: 8192 rows of the bits at `t`, the other arguments whole. -/
theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel

/-- There are two grid points. -/
theorem point_lt (t : Fin cfg0.N) : t.val < 2 := Nat.lt_of_lt_of_eq t.isLt N_0

/-- Row `r` of the block of bits at point `t` is row `8192 t + r` of the bits. -/
theorem bits_block (t : Fin cfg0.N) (r : Fin 8192) (j : Fin 32) :
    (iblk m c 0 t : IVec S8192x32 32) (ix2 r j)
      = X m c (ix2 ⟨8192 * t.val + r.val, by have := point_lt t; omega⟩ j) := by
  refine Eq.trans ?_ (congrFun (V_main_arg0 m c) _)
  blk_ext [iblk, index_0 t]

/-- The table's block is the table. -/
theorem table_block (t : Fin cfg0.N) (a : Fin 2) (e : Fin 64) :
    (iblk m c 1 t : FVec Ideal S2x64 .f32) (ix2 a e) = T m c (ix2 a e) := by
  refine Eq.trans ?_ (congrFun (V_main_arg1 m c) _)
  blk_ext [iblk, index_1 t]

/-- The weights' block is the weights. -/
theorem weights_block (t : Fin cfg0.N) (o : Fin 64) (k : Fin 2048) :
    (iblk m c 2 t : FVec Ideal S64x2048 .f32) (ix2 o k) = W m c (ix2 o k) := by
  refine Eq.trans ?_ (congrFun (V_main_arg2 m c) _)
  blk_ext [iblk, index_2 t]

/-- Before the launch the program lays the bias out as one row. -/
theorem bias_row (o : Fin 64) : (V m c main_v0 : FVec Ideal S1x64 .f32) (ix2 0 o) = B m c (ix1 o) := by
  entry_read
  pointwise

/-- The bias's block is that row. -/
theorem bias_block (t : Fin cfg0.N) (o : Fin 64) :
    (iblk m c 3 t : FVec Ideal S1x64 .f32) (ix2 0 o) = B m c (ix1 o) := by
  refine Eq.trans ?_ (bias_row m c o)
  blk_ext [iblk, index_3 t]

/-- The grouped weights: one number per output and bit. -/
def MT (o : Fin 64) (j : Fin 32) : EReal :=
  ∑ k : Fin 2048, (W m c (ix2 o k) * (T m c (ix2 1 (lane k)) - T m c (ix2 0 (lane k))))
    * (if k.val / 64 = j.val then (1 : EReal) else 0)

/-- The constant part: one number per output. -/
def CV (o : Fin 64) : EReal := B m c (ix1 o) + ∑ k : Fin 2048, T m c (ix2 0 (lane k)) * W m c (ix2 o k)

/-- The table's two rows, as the body loads them. -/
abbrev row0 (t : Fin cfg0.N) : FVec Ideal S1x64 .f32 :=
  View.ld (iblk m c 1 t) (Rect.unit ![0, 0] ![1, 64] inb_S2x64_S1x64_0_0)
abbrev row1 (t : Fin cfg0.N) : FVec Ideal S1x64 .f32 :=
  View.ld (iblk m c 1 t) (Rect.unit ![1, 0] ![1, 64] inb_S2x64_S1x64_1_0)

theorem row0_apply (t : Fin cfg0.N) (e : Fin 64) : row0 m c t (ix2 0 e) = T m c (ix2 0 e) := by
  rw [← table_block m c t]
  pointwise [row0]

theorem row1_apply (t : Fin cfg0.N) (e : Fin 64) : row1 m c t (ix2 0 e) = T m c (ix2 1 e) := by
  rw [← table_block m c t]
  pointwise [row1]

/-- The grouped weights as the body computes them from the blocks of point `t`. -/
theorem group_block (t : Fin cfg0.N) (o : Fin 64) (j : Fin 32) :
    k0_pay1 (F := Ideal) (k0_pay6 (row0 m c t) (row1 m c t) (iblk m c 2 t)) Payloads.rows Payloads.cols 64#32 k0_pay7
      k0_pay8 1#32 (ix2 o j) = MT m c o j := by
  rw [Payloads.group_apply]
  refine Finset.sum_congr rfl fun k _ => ?_
  rw [Payloads.scaled_apply, row0_apply, row1_apply, weights_block]

/-- The constant part as the body computes it from the blocks of point `t`. -/
theorem const_block (t : Fin cfg0.N) (o : Fin 64) :
    k0_pay2 (F := Ideal) (iblk m c 2 t) (k0_pay5 (row0 m c t)) (iblk m c 3 t) (ix2 0 o) = CV m c o := by
  rw [Payloads.const_apply, bias_block]
  refine congrArg (B m c (ix1 o) + ·) (Finset.sum_congr rfl fun k _ => ?_)
  rw [row0_apply, weights_block]

/-- The first point leaves the grouped weights in the first scratch. -/
theorem scratch_group (t : Fin cfg0.N) (h0 : t.val % 2 = 0) (o : Fin 64) (j : Fin 32) :
    (outsAt0 m c t.val t.isLt).2.1 (ix2 o j) = MT m c o j := by
  rw [outsAt0_A m c t h0]
  frame_out
  exact group_block m c t o j

/-- The first point leaves the constant part in the second scratch. -/
theorem scratch_const (t : Fin cfg0.N) (h0 : t.val % 2 = 0) (o : Fin 64) :
    (outsAt0 m c t.val t.isLt).2.2 (ix2 0 o) = CV m c o := by
  rw [outsAt0_A m c t h0]
  frame_out
  exact const_block m c t o

/-- What every point writes: entry `(r, o)` of its block is the bits of that row times the grouped weights, plus the
    constant part. -/
theorem written (t : Fin cfg0.N) (r : Fin 8192) (o : Fin 64) :
    (outsAt0 m c t.val t.isLt).1 (ix2 r o)
      = (∑ j : Fin 32, (((X m c (ix2 ⟨8192 * t.val + r.val, by have := point_lt t; omega⟩ j)).toInt : ℝ) : EReal)
          * MT m c o j) + CV m c o := by
  by_cases h0 : t.val % 2 = 0
  · rw [outsAt0_A m c t h0]
    frame_out
    rw [Payloads.block_apply]
    simp only [bits_block]
    exact congrArg₂ (· + ·) (Finset.sum_congr rfl fun j _ => congrArg _ (group_block m c t o j)) (const_block m c t o)
  · have hp : t.val - 1 < cfg0.N := Nat.lt_of_le_of_lt (Nat.sub_le _ _) t.isLt
    have hp0 : (⟨t.val - 1, hp⟩ : Fin cfg0.N).val % 2 = 0 := by have := point_lt t; show (t.val - 1) % 2 = 0; omega
    rw [outsAt0_B m c t h0]
    frame_out
    simp only [read_unread_whole]
    rw [Payloads.block_apply]
    simp only [bits_block]
    exact congrArg₂ (· + ·)
      (Finset.sum_congr rfl fun j _ => congrArg _ (scratch_group m c ⟨t.val - 1, hp⟩ hp0 o j))
      (scratch_const m c ⟨t.val - 1, hp⟩ hp0 o)

/-- The result array: row `r` of the bits times the grouped weights, plus the constant part. -/
theorem result_apply (r : Fin 16384) (o : Fin 64) :
    (Value.G4 m c : FVec Ideal S16384x64 .f32) (ix2 r o)
      = (∑ j : Fin 32, (((X m c (ix2 r j)).toInt : ℝ) : EReal) * MT m c o j) + CV m c o := by
  have hlt : Value.pt4Of (ix2 r o) < cfg0.N := Nat.lt_of_lt_of_eq (m := 2) (by
    show 1 * (r.val / 8192 - 0) + 1 * (o.val / 64 - 0) < 2
    omega) N_0.symm
  have hpt : Value.pt4Of (ix2 r o) = r.val / 8192 := by
    show 1 * (r.val / 8192 - 0) + 1 * (o.val / 64 - 0) = r.val / 8192
    omega
  have hloc : Value.loc4Of (ix2 r o) = ix2 ⟨r.val % 8192, Nat.mod_lt _ (by decide)⟩ o := by
    funext a
    apply Fin.ext
    match a with
    | ⟨0, _⟩ => rfl
    | ⟨1, _⟩ => exact Nat.mod_eq_of_lt o.isLt
  unfold Value.G4
  rw [dif_pos hlt, ← Value.outsAt0_sweep m c _ hlt, hloc]
  refine (written m c ⟨_, hlt⟩ _ o).trans ?_
  have hr : (⟨8192 * Value.pt4Of (ix2 r o) + r.val % 8192, by rw [hpt]; omega⟩ : Fin 16384) = r :=
    Fin.ext (by show 8192 * Value.pt4Of (ix2 r o) + r.val % 8192 = r.val; rw [hpt]; omega)
  simp only [hr]

end Cert.KernelIdeal.Array

end
-- ==== Proof.Bits.lean ====
/- What the precondition says of the arguments, element by element: the input words are 0 or 1, the table's and the
   weights' numbers are finite. -/
module

public import proofs.«01_k».proof.Proof.Gen.Pre_bits_and_finite
public import Idealize.ShloMosaic.Lib.ReduceAll
public import Idealize.ShloMosaic.Lib.Affine
public import Idealize.ShloMosaic.Lib.Pointwise

@[expose] public section

noncomputable section

namespace Cert.Bits

open Cert.Pre_bits_and_finite Cert.Pre_bits_and_finite.Gen Idealize.ShloMosaic

/-- An extended real whose absolute value is below infinity is a real number. -/
theorem real_of_abs_lt (a : EReal) (h : max a (-a) < ⊤) : ((a.toReal : ℝ) : EReal) = a := by
  refine EReal.coe_toReal (fun e => ?_) (fun e => ?_)
  · subst e; simp at h
  · subst e; simp at h

/-- The pattern the precondition compares with is infinity. -/
theorem inf_pattern : Ideal.ofBits .f32 0x7F800000#32 = ⊤ := by simp [Ideal.ofBits, Ideal.ieee]

/-- The precondition's test of one number, passed, says that the number is real. -/
theorem real_of_lt_pattern (a : EReal)
    (h : BitVec.ofBool (decide (FloatOps.absf (F := Ideal) (φ := .f32) a < Ideal.ofBits .f32 0x7F800000#32)) = 1#1) :
    ((a.toReal : ℝ) : EReal) = a := by
  rw [Ideal.absf_def, inf_pattern] at h
  refine real_of_abs_lt a (of_decide_eq_true ?_)
  cases hd : decide (max a (-a) < ⊤)
  · rw [hd] at h; exact absurd h (by decide)
  · rfl

/-- The result of the precondition's reductions has one place. -/
instance : Subsingleton S_.Idx := ⟨fun a b => funext fun i => i.elim0⟩

/-- The precondition's three parts: every input word is 0 or 1, every number of the table is finite, every weight is. -/
theorem decode (x : IVec S16384x32 32) (T : FVec Ideal S2x64 .f32) (W : FVec Ideal S64x2048 .f32)
    (b : FVec Ideal S64 .f32) (h : fn (F := Ideal) x T W b = fun _ => 1#1) :
    (∀ i, x i = 0#32 ∨ x i = 1#32) ∧ (∀ i, (((T i).toReal : ℝ) : EReal) = T i)
      ∧ ∀ i, (((W i).toReal : ℝ) : EReal) = W i := by
  have h0 := congrFun h ix0
  obtain ⟨h12, h3⟩ := IntOp.andi_eq_one.1 h0
  obtain ⟨h1, h2⟩ := IntOp.andi_eq_one.1 h12
  refine ⟨fun i => ?_, fun i => ?_, fun i => ?_⟩
  · have e := Host.reduce_andi_all _ _ _ _ _ h1 i
    rcases IntOp.ori_eq_one.1 e with e | e
    · exact .inl (IntOp.cmpi_eq.1 e)
    · exact .inr (IntOp.cmpi_eq.1 e)
  · have e := Host.reduce_andi_all _ _ _ _ _ h2 i
    pointwise at e
    exact real_of_lt_pattern _ e
  · have e := Host.reduce_andi_all _ _ _ _ _ h3 i
    pointwise at e
    exact real_of_lt_pattern _ e

end Cert.Bits

end
-- ==== Proof.Reference.lean ====
/- What the reference's result array holds, read at an index, where the input words are 0 or 1. -/
module

public import proofs.«01_k».proof.Proof.Gen.ReferenceIdeal.Run
public import proofs.«01_k».proof.Proof.Fold
public import Idealize.ShloMosaic.Lib.Pointwise

@[expose] public section

set_option maxRecDepth 16384

noncomputable section

namespace Cert.ReferenceIdeal.Lookup

open Cert.ReferenceIdeal Cert.ReferenceIdeal.Gen Idealize.ShloMosaic
open Cert.Fold (lane bit)

/-- The row numbers the reference looks up: the input words, with negative ones moved up by the number of rows. -/
abbrev picks (x : IVec S16384x32 32) : IVec S16384x32x1 32 :=
  broadcastInDim S16384x32x1 ![0, 1] bcast_S16384x32_S16384x32x1_0_1
    (select (cmpi .slt x (broadcastInDim S16384x32 ![] bcast_S_S16384x32 (constantI S_ 32 0#32)))
      (addi x (broadcastInDim S16384x32 ![] bcast_S_S16384x32 (constantI S_ 32 2#32))) x)

/-- A lookup in the table: number `e` of the row whose number stands at place `(r, j)`, clamped to the table's rows. -/
theorem gather_apply (T : FVec Ideal S2x64 .f32) (p : IVec S16384x32x1 32) (r : Fin 16384) (j : Fin 32) (e : Fin 64) :
    Host.gather gather_S2x64_S16384x32x1_S16384x32x64_2_0_n_n_0_2_164 T p (ix3 r j e)
      = T (ix2 ⟨min (p (ix3 r j 0)).toInt.toNat 1, by omega⟩ e) := by
  refine congrArg T (funext fun a => Fin.ext ?_)
  match a with
  | ⟨0, _⟩ =>
    have hp : gather_S2x64_S16384x32x1_S16384x32x64_2_0_n_n_0_2_164.siIdx (ix3 r j e) ⟨0, by decide⟩ = ix3 r j 0 := by
      funext b
      match b with
      | ⟨0, _⟩ => rfl
      | ⟨1, _⟩ => rfl
      | ⟨2, _⟩ => rfl
    show min (p (gather_S2x64_S16384x32x1_S16384x32x64_2_0_n_n_0_2_164.siIdx (ix3 r j e) ⟨0, by decide⟩)).toInt.toNat 1
      + 0 + 0 = _
    rw [hp]
    rfl
  | ⟨1, _⟩ => show 0 + 0 + e.val = e.val; omega

/-- A bit is not negative, so the reference looks up the row of that number. -/
theorem pick_bit (w : BitVec 32) (hw : w = 0#32 ∨ w = 1#32) :
    Scalar.select (IntOp.cmpi .slt w 0#32) (IntOp.addi w 2#32) w = w := by
  rcases hw with rfl | rfl <;> decide

/-- A bit names a row of the table, so the reference keeps what it looked up. -/
theorem in_table (w : BitVec 32) (hw : w = 0#32 ∨ w = 1#32) :
    Finset.fold IntOp.andi 1#1 (fun _ : Fin 1 => IntOp.andi (IntOp.cmpi .sge w 0#32) (IntOp.cmpi .sle w 1#32))
      Finset.univ = 1#1 := by
  rcases hw with rfl | rfl <;> decide

/-- The row of the table a word names: row 1 for the word 1, row 0 for the word 0. -/
abbrev rowOf (w : BitVec 32) : Fin 2 := ⟨min w.toInt.toNat 1, by omega⟩

/-- The reference's result from its four arguments, in the operations it is made of. -/
abbrev result (x : IVec S16384x32 32) (T : FVec Ideal S2x64 .f32) (W : FVec Ideal S64x2048 .f32)
    (b : FVec Ideal S64 .f32) : FVec Ideal S16384x64 .f32 :=
  addf (Host.dotGeneral dot_S16384x2048_S2048x64_S16384x64_1_0_0_1_n_n none
      (shapeCast _ (select
        (broadcastInDim S16384x32x64 ![0, 1] bcast_S16384x32_S16384x32x64_0_1
          (Host.reduce IntOp.andi
            (andi (cmpi .sge (picks x) (broadcastInDim S16384x32x1 ![] bcast_S_S16384x32x1 (constantI S_ 32 0#32)))
              (cmpi .sle (picks x) (broadcastInDim S16384x32x1 ![0, 1, 2] bcast_S1x1x1_S16384x32x1_0_1_2
                (broadcastInDim S1x1x1 ![2] bcast_S1_S1x1x1_2 (constantI S1 32 1#32)))))
            (constantI S_ 1 1#1) reducesTo_S16384x32x1_S16384x32_d2 h_S_))
        (Host.gather gather_S2x64_S16384x32x1_S16384x32x64_2_0_n_n_0_2_164 T (picks x))
        (broadcastInDim S16384x32x64 ![] bcast_S_S16384x32x64 (constant S_ .f32 0x7FC00000#32)))
        shapeCasts_S16384x32x64_S16384x2048)
      (transpose S2048x64 [1, 0] W transposes_S64x2048_S2048x64_1_0))
    (broadcastInDim S16384x64 ![0, 1] bcast_S1x64_S16384x64_0_1 (broadcastInDim S1x64 ![1] bcast_S64_S1x64_1 b))

/-- Entry `(r, o)` of the reference: the looked-up rows, one after the other, times row `o` of the weights, plus the
    bias. -/
theorem result_apply (x : IVec S16384x32 32) (T : FVec Ideal S2x64 .f32) (W : FVec Ideal S64x2048 .f32)
    (b : FVec Ideal S64 .f32) (hx : ∀ i, x i = 0#32 ∨ x i = 1#32) (r : Fin 16384) (o : Fin 64) :
    result x T W b (ix2 r o)
      = (∑ k : Fin 2048, T (ix2 (rowOf (x (ix2 r (bit k)))) (lane k)) * W (ix2 o k)) + b (ix1 o) := by
  have hpick : ∀ (r : Fin 16384) (j : Fin 32), picks x (ix3 r j 0) = x (ix2 r j) := fun r j => by
    pointwise [picks]
    exact pick_bit _ (hx _)
  unfold result
  generalize hp : picks x = p at hpick
  pointwise
  refine congrArg (· + b (ix1 o)) (Finset.sum_congr rfl fun k _ => congrArg (· * W (ix2 o k)) ?_)
  have hall : ∀ y : Fin 1, p (ix3 r ⟨k.val / 64, by omega⟩ y) = x (ix2 r (bit k)) := fun y => by
    rw [Subsingleton.elim y 0]
    exact hpick r (bit k)
  simp only [hall, gather_apply]
  rw [in_table _ (hx _), ValueIdx.select_one]

end Cert.ReferenceIdeal.Lookup

end
-- ==== Proof.Equation.lean ====
/- The equation: where the input words are 0 or 1 and the table and the weights are finite, the kernel's result array
   and the reference's are the same, number by number. -/
module

public import proofs.«01_k».proof.Proof.Array
public import proofs.«01_k».proof.Proof.Bits
public import proofs.«01_k».proof.Proof.Reference

@[expose] public section

set_option maxRecDepth 16384

noncomputable section

namespace Cert.Equation

open Idealize.ShloMosaic Idealize.ShloMosaic.TcCoe
open Cert.KernelIdeal (nD τ sig)
open Cert.KernelIdeal.Array (X T W B)
open Cert.Fold (lane bit)

/-- Row `w` of a table of two finite rows, for a bit `w`: the first row plus `w` times the difference of the rows. -/
theorem row_of_bit (t : Fin 2 → EReal) (ht : ∀ a, (((t a).toReal : ℝ) : EReal) = t a) (w : BitVec 32)
    (hw : w = 0#32 ∨ w = 1#32) :
    t (Cert.ReferenceIdeal.Lookup.rowOf w)
      = (((t 0).toReal + (w.toInt : ℝ) * ((t 1).toReal - (t 0).toReal) : ℝ) : EReal) := by
  rcases hw with rfl | rfl
  · rw [show (Cert.ReferenceIdeal.Lookup.rowOf 0#32) = 0 from by decide]
    simp [ht]
  · rw [show (Cert.ReferenceIdeal.Lookup.rowOf 1#32) = 1 from by decide]
    simp [ht]

/-- The two programs' results agree at every row and output. -/
theorem entry (m : (ℓ : Loc nD τ sig) → Buf (Elt Ideal) ℓ) (c : Dev nD)
    (h : Cert.Pre_bits_and_finite.fn (F := Ideal) (X m c) (T m c) (W m c) (B m c) = fun _ => 1#1)
    (r : Fin 16384) (o : Fin 64) :
    Cert.ReferenceIdeal.Lookup.result (X m c) (T m c) (W m c) (B m c) (ix2 r o)
      = (Cert.KernelIdeal.Value.G4 m c : FVec Ideal Cert.KernelIdeal.S16384x64 .f32) (ix2 r o) := by
  obtain ⟨hX, hT, hW⟩ := Cert.Bits.decode _ _ _ _ h
  rw [Cert.KernelIdeal.Array.result_apply]
  refine (Cert.ReferenceIdeal.Lookup.result_apply _ _ _ _ hX r o).trans ?_
  have e := Cert.Fold.fold_ereal (fun j => ((X m c (ix2 r j)).toInt : ℝ)) (fun l => (T m c (ix2 0 l)).toReal)
    (fun l => (T m c (ix2 1 l)).toReal) (fun k => (W m c (ix2 o k)).toReal) (B m c (ix1 o))
  simp only [hT, hW] at e
  refine Eq.trans ?_ e.symm
  refine congrArg (· + B m c (ix1 o)) (Finset.sum_congr rfl fun k _ => congrArg (· * W m c (ix2 o k)) ?_)
  exact row_of_bit (fun a => T m c (ix2 a (lane k))) (fun a => hT _) _ (hX _)

/-- The two programs' result arrays are equal. -/
theorem result (m : (ℓ : Loc nD τ sig) → Buf (Elt Ideal) ℓ) (c : Dev nD)
    (h : Cert.Pre_bits_and_finite.fn (F := Ideal) (X m c) (T m c) (W m c) (B m c) = fun _ => 1#1) :
    Cert.ReferenceIdeal.Lookup.result (X m c) (T m c) (W m c) (B m c) = Cert.KernelIdeal.Value.G4 m c := by
  funext i
  obtain ⟨r, o, rfl⟩ : ∃ (r : Fin 16384) (o : Fin 64), i = ix2 r o := ⟨i 0, i 1, eq_ix2 i⟩
  exact entry m c h r o

end Cert.Equation

end
-- ==== Proof.lean ====
module

public import proofs.«01_k».proof.Defs
public import proofs.«01_k».proof.Proof.Gen.Kernel.Frame
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and leaves every counter at zero: it declares no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The value claim: from memories that agree on the arguments, both programs end with the same result array. -/
theorem value : algebraic_KernelIdeal_ReferenceIdeal_pre_bits_and_finite := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2.1, (hagree c).2.2.2]
  exact Cert.Equation.result m c (hpre c)

/-- Everything the certificate claims. -/
theorem claim : Cert.Claim :=
  ⟨Cert.Kernel.Gen.facts, Cert.KernelIdeal.Gen.facts, Cert.ReferenceIdeal.Gen.facts, Cert.Pre_bits_and_finite.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    (trivial : preserves_Kernel_KernelIdeal), value⟩

end Cert.Proof

end
